-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_enough_above [hPre_enough_above : Cert.Pre_enough_above.Facts] (m : (ℓ : Loc Cert.KernelIdeal.nD Cert.KernelIdeal.τ Cert.KernelIdeal.sig) → Buf (Elt Ideal) ℓ) : Prop :=
  ∀ c : Dev Cert.KernelIdeal.nD,
    (Cert.Pre_enough_above.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_enough_above [hPre_enough_above : Cert.Pre_enough_above.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_enough_above.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_enough_above [hKernelIdeal : Cert.KernelIdeal.Facts] [hPre_enough_above : Cert.Pre_enough_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_enough_above m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_enough_above [hReferenceIdeal : Cert.ReferenceIdeal.Facts] [hPre_enough_above : Cert.Pre_enough_above.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_enough_above m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_enough_above [hKernelIdeal : Cert.KernelIdeal.Facts] [hReferenceIdeal : Cert.ReferenceIdeal.Facts] [hPre_enough_above : Cert.Pre_enough_above.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_enough_above m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_enough_above : Cert.Pre_enough_above.Facts),
    quiescent_Kernel (hKernel := hKernel)
    ∧ quiescent_KernelIdeal (hKernelIdeal := hKernelIdeal)
    ∧ quiescent_KernelIdeal_pre_enough_above (hKernelIdeal := hKernelIdeal) (hPre_enough_above := hPre_enough_above)
    ∧ quiescent_ReferenceIdeal (hReferenceIdeal := hReferenceIdeal)
    ∧ quiescent_ReferenceIdeal_pre_enough_above (hReferenceIdeal := hReferenceIdeal) (hPre_enough_above := hPre_enough_above)
    ∧ preserves_Kernel_KernelIdeal
    ∧ algebraic_KernelIdeal_ReferenceIdeal_pre_enough_above (hKernelIdeal := hKernelIdeal) (hReferenceIdeal := hReferenceIdeal) (hPre_enough_above := hPre_enough_above)
-- ==== Pre_enough_above.lean ====
abbrev S4096x8192 : Shape := ⟨2, ![4096, 8192]⟩
abbrev S256x8192 : Shape := ⟨2, ![256, 8192]⟩
abbrev S_ : Shape := ⟨0, ![]⟩
abbrev S4096 : Shape := ⟨1, ![4096]⟩

class Facts : Prop where
  bcast_S_S4096x8192 : S_.BroadcastsInDim S4096x8192 (![] : Fin 0 → Fin S4096x8192.rank)
  natLt_1_32 : 1 < 32
  reducesTo_S4096x8192_S4096_d1 : S4096x8192.ReducesTo [1] S4096
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x8192 .f32) (main_arg1 : FVec F S256x8192 .f32) : IVec S_ 1 :=
  let main_cst : FVec F S_ .f32 := constant S_ .f32 0xFF7FC99E#32
  let main_v0 : FVec F S4096x8192 .f32 := broadcastInDim S4096x8192 ![] bcast_S_S4096x8192 main_cst
  let main_v1 : IVec S4096x8192 1 := cmpf .ogt main_arg0 main_v0
  let main_v2 : IVec S4096x8192 32 := (extui 32 · natLt_1_32) main_v1
  let main_c : IVec S_ 32 := constantI S_ 32 0#32
  let main_v3 : IVec S4096 32 := (fun x v => Host.reduce IntOp.addi x v reducesTo_S4096x8192_S4096_d1 h_S_) main_v2 main_c
  let main_c_0 : IVec S_ 32 := constantI S_ 32 15#32
  let main_v4 : IVec S4096 32 := broadcastInDim S4096 ![] bcast_S_S4096 main_c_0
  let main_v5 : IVec S4096 1 := cmpi .sge main_v3 main_v4
  let main_c_1 : IVec S_ 1 := constantI S_ 1 1#1
  let main_v6 : IVec S_ 1 := (fun x v => Host.reduce IntOp.andi x v reducesTo_S4096_S_d0 h_S_) main_v5 main_c_1
  main_v6
-- ==== Kernel.lean ====
abbrev S4096x8192 : Shape := ⟨2, ![4096, 8192]⟩
abbrev S256x8192 : Shape := ⟨2, ![256, 8192]⟩
abbrev S8192x256 : Shape := ⟨2, ![8192, 256]⟩
abbrev S4096x256 : Shape := ⟨2, ![4096, 256]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x8192, .f32⟩
  | .hbm, ⟨1, _⟩ => ⟨S256x8192, .f32⟩
  | .hbm, ⟨2, _⟩ => ⟨S8192x256, .f32⟩
  | .hbm, ⟨3, _⟩ => ⟨S8192x256, .bf16⟩
  | .hbm, ⟨4, _⟩ => ⟨S4096x256, .f32⟩
  | .local _ .vmem, ⟨0, _⟩ => ⟨S256x8192, .f32⟩
  | .local _ .vmem, ⟨1, _⟩ => ⟨S256x8192, .f32⟩
  | .local _ .vmem, ⟨2, _⟩ => ⟨S8192x256, .bf16⟩
  | .local _ .vmem, ⟨3, _⟩ => ⟨S256x256, .f32⟩
  | .local _ .vmem, ⟨4, _⟩ => ⟨S256x256, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x8192 : Shape := ⟨2, ![4096, 8192]⟩
abbrev S256x8192 : Shape := ⟨2, ![256, 8192]⟩
abbrev S_ : Shape := ⟨0, ![]⟩
abbrev S8192x256 : Shape := ⟨2, ![8192, 256]⟩
abbrev S4096x256 : Shape := ⟨2, ![4096, 256]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S256x8192, .f32⟩
  | .hbm, ⟨2, _⟩ => ⟨S4096x8192, .f32⟩
  | .hbm, ⟨3, _⟩ => ⟨S4096x8192, .i32⟩
  | .hbm, ⟨4, _⟩ => ⟨S4096x8192, .f32⟩
  | .hbm, ⟨5, _⟩ => ⟨S4096x8192, .i32⟩
  | .hbm, ⟨6, _⟩ => ⟨S4096x8192, .i32⟩
  | .hbm, ⟨7, _⟩ => ⟨S4096x8192, .i32⟩
  | .hbm, ⟨8, _⟩ => ⟨S4096x8192, .i32⟩
  | .hbm, ⟨9, _⟩ => ⟨S_, .i32⟩
  | .hbm, ⟨10, _⟩ => ⟨S4096x8192, .i32⟩
  | .hbm, ⟨11, _⟩ => ⟨S4096x8192, .i1⟩
  | .hbm, ⟨12, _⟩ => ⟨S4096x8192, .f32⟩
  | .hbm, ⟨13, _⟩ => ⟨S8192x256, .f32⟩
  | .hbm, ⟨14, _⟩ => ⟨S4096x256, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_call1_v0 : Ref sig .tc := ⟨.hbm, 6, rfl⟩
abbrev main_call1_v1_0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Proof.Selection.lean ====
/- The fifteen greatest entries of one row, found two ways: by picking the first maximum and replacing it, again and
   again, and by a stable sort. Nothing here mentions a program: a row is a function on `Fin n` into a linear order. -/
module

public import Idealize.ShloMosaic.Lib.SortPrefix
public import Mathlib.Data.Finset.Card
public import Mathlib.Data.Finset.Max

@[expose] public section

namespace Cert.Selection

open Idealize.ShloMosaic

variable {α : Type} [LinearOrder α] {n : Nat}

/-! ## The order of a row's positions -/

/-- `a` comes before `b` in row `x`: its entry is greater, or the entries are equal and `a` is the earlier position. -/
def before (x : Fin n → α) (a b : Fin n) : Bool :=
  decide (x b < x a) || (decide (x a = x b) && decide (a < b))

/-- It is a strict total order on the positions. -/
theorem before_strict (x : Fin n → α) : StrictTotalBefore (before x) :=
  StrictTotalBefore.of_key_then_position (fun u v => decide (v < u)) x (fun a => by simp)
    (fun a b c h h' => by
      simp only [decide_eq_true_eq] at h h' ⊢
      exact lt_trans h' h)
    (fun a b => by
      simp only [decide_eq_true_eq]
      rcases lt_trichotomy a b with h | h | h
      · exact Or.inr (Or.inr h)
      · exact Or.inr (Or.inl h)
      · exact Or.inl h)

/-- A stable sort that compares the entries alone puts a list of increasing positions in the order `before`. -/
theorem stableSort_entries (x : Fin n → α) (l : List (Fin n)) (hl : l.Pairwise (· < ·)) :
    stableSort (fun a b => decide (x b < x a)) l = stableSort (before x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [before, not_lt_of_gt hab]

/-- So the position that the sort of the entries puts at `k` is the one `before` puts there. -/
theorem sortedFrom_entries (x : Fin n → α) :
    sortedFrom (fun a b : Fin n => decide (x b < x a)) = sortedFrom (before x) := by
  have e : sortPositions n (fun a b : Fin n => decide (x b < x a)) = sortPositions n (before x) :=
    stableSort_entries x _ (List.sortedLT_finRange n).pairwise
  funext k
  unfold sortedFrom
  rw [List.get_of_eq e]
  rfl

/-! ## The rank of a position -/

/-- Sorting the positions of a permutation `p` by its values inverts it: the value at `k` is at position `q k`. -/
theorem apply_sortedFrom_perm (p : Fin n → Fin n) (hp : Function.Bijective p) (k : Fin n) :
    p (sortedFrom (fun a b : Fin n => decide (p a < p b)) k) = k := by
  have hB : StrictTotalBefore (fun a b : Fin n => decide (p a < p b)) :=
    { irrefl := fun a => by simp
      trans := fun a b c h h' => by
        simp only [decide_eq_true_eq] at h h' ⊢
        exact lt_trans h h'
      total := fun a b h => by
        simp only [decide_eq_true_eq]
        exact lt_or_gt_of_ne fun e => h (hp.1 e) }
  have key := hB.sortedFrom_eq_of_prefix (le_refl n) (Equiv.ofBijective p hp).symm (Equiv.injective _)
    (fun i j hij => by
      have e : ∀ i, p ((Equiv.ofBijective p hp).symm i) = i := fun i => (Equiv.ofBijective p hp).apply_symm_apply i
      simp only [e, decide_eq_false_iff_not]
      exact not_lt_of_gt hij)
    (fun i q hq => absurd ((Equiv.ofBijective p hp).symm_apply_apply q) (hq (p q))) k
  have hk : k.castLE (le_refl n) = k := rfl
  rw [hk] at key
  rw [key]
  exact (Equiv.ofBijective p hp).apply_symm_apply k

/-- The rank of a position in its row: where the row sorted has it, found by sorting the sorted positions. -/
def rank (x : Fin n → α) (j : Fin n) : Fin n :=
  sortedFrom (fun a b : Fin n => decide (sortedFrom (before x) a < sortedFrom (before x) b)) j

/-! ## Picking the first maximum -/

/-- `j` is the first position at which row `y` has its greatest entry. -/
def IsFirstMax (y : Fin n → α) (j : Fin n) : Prop :=
  (∀ k, y k ≤ y j) ∧ ∀ k, y k = y j → j ≤ k

/-- A row has one first maximum. -/
theorem IsFirstMax.unique {y : Fin n → α} {i j : Fin n} (hi : IsFirstMax y i) (hj : IsFirstMax y j) : i = j :=
  le_antisymm (hi.2 j (le_antisymm (hi.1 j) (hj.1 i))) (hj.2 i (le_antisymm (hj.1 i) (hi.1 j)))

/-- A row that is not empty has a first maximum. -/
theorem exists_isFirstMax (hn : 0 < n) (y : Fin n → α) : ∃ j, IsFirstMax y j := by
  obtain ⟨p, -, hp'⟩ := Finset.exists_max_image Finset.univ y ⟨(⟨0, hn⟩ : Fin n), Finset.mem_univ _⟩
  have hp : ∀ k, y k ≤ y p := fun k => hp' k (Finset.mem_univ k)
  have hne : (Finset.univ.filter fun k => y k = y p).Nonempty := ⟨p, by simp⟩
  refine ⟨(Finset.univ.filter fun k => y k = y p).min' hne, ?_⟩
  have hmem := Finset.min'_mem _ hne
  have hval : y ((Finset.univ.filter fun k => y k = y p).min' hne) = y p := (Finset.mem_filter.mp hmem).2
  refine ⟨fun k => by rw [hval]; exact hp k, fun k hk => Finset.min'_le _ _ ?_⟩
  rw [Finset.mem_filter]
  exact ⟨Finset.mem_univ _, hk.trans hval⟩

/-- Rows that start at `x` and of which each is the one before with its first maximum, at `σ t`, replaced by `bot`. -/
structure Rounds (bot : α) (x : Fin n → α) (Y : Nat → Fin n → α) (σ : Nat → Fin n) : Prop where
  start : Y 0 = x
  first : ∀ t, IsFirstMax (Y t) (σ t)
  step : ∀ t p, Y (t + 1) p = if p = σ t then bot else Y t p

namespace Rounds

variable {bot : α} {x : Fin n → α} {Y : Nat → Fin n → α} {σ : Nat → Fin n}

/-- A position not yet picked still has its entry … -/
theorem of_new (h : Rounds bot x Y σ) (t : Nat) (p : Fin n) (hp : ∀ i < t, σ i ≠ p) : Y t p = x p := by
  induction t with
  | zero => rw [h.start]
  | succ t ih =>
    rw [h.step, if_neg (fun e => hp t (Nat.lt_succ_self t) e.symm)]
    exact ih fun i hi => hp i (Nat.lt_succ_of_lt hi)

/-- … and a picked one has `bot`. -/
theorem of_picked (h : Rounds bot x Y σ) (t i : Nat) (hi : i < t) : Y t (σ i) = bot := by
  induction t with
  | zero => exact absurd hi (Nat.not_lt_zero i)
  | succ t ih =>
    rw [h.step]
    split
    · rfl
    · next hne =>
      refine ih (lt_of_le_of_ne (Nat.le_of_lt_succ hi) fun e => hne ?_)
      rw [e]

/-- While fewer positions have been picked than the row has entries above `bot`, the next pick is new. -/
theorem new (h : Rounds bot x Y σ) {K : Nat} (hK : K ≤ (Finset.univ.filter fun p => bot < x p).card) {t : Nat} (ht : t < K) :
    ∀ i < t, σ i ≠ σ t := by
  intro i hi e
  have hcard : ((Finset.range t).image σ).card < (Finset.univ.filter fun p => bot < x p).card :=
    lt_of_le_of_lt (Finset.card_image_le.trans (Finset.card_range t).le) (lt_of_lt_of_le ht hK)
  obtain ⟨p, hp, hnot⟩ := Finset.exists_mem_notMem_of_card_lt_card hcard
  have hpx : bot < x p := (Finset.mem_filter.mp hp).2
  have hnew : ∀ i < t, σ i ≠ p := fun i hi e => hnot (Finset.mem_image.mpr ⟨i, Finset.mem_range.mpr hi, e⟩)
  have h1 : Y t p ≤ Y t (σ t) := (h.first t).1 p
  rw [h.of_new t p hnew, ← e, h.of_picked t i hi] at h1
  exact absurd hpx (not_lt_of_ge h1)

/-- No position still unpicked comes before the one picked. -/
theorem not_before (h : Rounds bot x Y σ) {K : Nat} (hK : K ≤ (Finset.univ.filter fun p => bot < x p).card) {t : Nat} (ht : t < K)
    (q : Fin n) (hq : ∀ i < t, σ i ≠ q) : before x q (σ t) = false := by
  have e1 : Y t q = x q := h.of_new t q hq
  have e2 : Y t (σ t) = x (σ t) := h.of_new t (σ t) (h.new hK ht)
  have h1 := (h.first t).1 q
  have h2 := (h.first t).2 q
  rw [e1, e2] at h1 h2
  simp only [before, Bool.or_eq_false_iff, decide_eq_false_iff_not, Bool.and_eq_false_iff]
  refine ⟨not_lt_of_ge h1, ?_⟩
  by_cases e : x q = x (σ t)
  · exact Or.inr (not_lt_of_ge (h2 e))
  · exact Or.inl e

/-- If the row has `K` entries above `bot`, the first `K` picks are the first `K` positions of the row sorted. -/
theorem sortedFrom_eq (h : Rounds bot x Y σ) {K : Nat} (hK : K ≤ (Finset.univ.filter fun p => bot < x p).card) (hn : K ≤ n)
    (i : Fin K) : sortedFrom (before x) (i.castLE hn) = σ i := by
  refine (before_strict x).sortedFrom_eq_of_prefix hn (fun i : Fin K => σ i) ?_ ?_ ?_ i
  · intro i j e
    rcases lt_trichotomy i j with hij | hij | hij
    · exact absurd e (h.new hK j.isLt i hij)
    · exact hij
    · exact absurd e.symm (h.new hK i.isLt j hij)
  · intro i j hij
    refine h.not_before hK i.isLt _ fun l hl => h.new hK j.isLt l (lt_trans hl hij)
  · intro i p hp
    exact h.not_before hK i.isLt p fun l hl => hp ⟨l, lt_trans hl i.isLt⟩

/-- So a position's rank in the sorted row is below `K` exactly when it is one of the first `K` picks. -/
theorem rank_lt_iff (h : Rounds bot x Y σ) {K : Nat} (hK : K ≤ (Finset.univ.filter fun p => bot < x p).card) (hn : K ≤ n)
    (j : Fin n) :
    (rank x j).val < K ↔ ∃ i < K, σ i = j := by
  have hbij : Function.Bijective (sortedFrom (before x)) := ⟨sortedFrom_injective _, sortedFrom_surjective _⟩
  have e : sortedFrom (before x) (rank x j) = j := apply_sortedFrom_perm (sortedFrom (before x)) hbij j
  constructor
  · intro hlt
    refine ⟨(rank x j).val, hlt, ?_⟩
    rw [← h.sortedFrom_eq hK hn ⟨(rank x j).val, hlt⟩]
    exact e
  · rintro ⟨i, hi, hij⟩
    have e' := h.sortedFrom_eq hK hn ⟨i, hi⟩
    rw [hij, ← e] at e'
    rw [← hbij.1 e']
    exact hi

end Rounds

end Cert.Selection
-- ==== Proof.Round.lean ====
/- One round of the kernel, read at an index: the position it marks in a row is the first one at which the row has its
   greatest entry. -/
module

public import proofs.«01_k».proof.Proof.Selection
public import proofs.«01_k».proof.Proof.Gen.KernelIdeal.Skeleton
public import Idealize.ShloMosaic.Lib.ValueIdx
public import Idealize.ShloMosaic.Lib.ValueLayoutCasts
public import Idealize.ShloMosaic.Lib.Pipeline.Value
public import Idealize.ShloMosaic.Lib.SortNet.Extract
public import Idealize.ShloMosaic.PureOps.Ideal.Laws

@[expose] public section

noncomputable section

namespace Cert.Round

open Idealize.ShloMosaic Idealize.ShloMosaic.ValueIdx Cert.KernelIdeal Cert.KernelIdeal.Gen Cert.Selection

/-! ## Three operations at an index -/

/-- A column of 256 values spread over the rows of a block reads, in row `r`, the column's `r`-th value. -/
theorem spread_apply {α : Type} (v : S256.Idx → α) (r : Fin 256) (j : Fin 8192) :
    broadcastTo S256x8192 (shapeCast S256x1 v shapeCasts_S256_S256x1) broadcasts_S256x1_S256x8192 (ix2 r j) = v (ix1 r) := by
  refine Eq.trans ?_ (shapeCast_a_a1_apply v shapeCasts_S256_S256x1 r 0)
  refine congrArg (shapeCast S256x1 v shapeCasts_S256_S256x1) (funext fun d => ?_)
  match d with
  | ⟨0, _⟩ => rfl
  | ⟨1, _⟩ => rfl

/-- The source index over row `r` with column `k`. -/
theorem lift_eq (r : Fin 256) (k : Fin 8192) :
    Shape.Reduces.lift (a := (1 : Fin 2)) reduces_S256x8192_S256 (ix1 r) k = ix2 r k := by
  funext d
  apply Fin.ext
  match d with
  | ⟨0, _⟩ => rfl
  | ⟨1, _⟩ => rfl

/-- The pattern a row maximum starts from is the least extended real. -/
theorem ofBits_neg_inf : (FloatOps.ofBits .f32 0xFF800000#32 : Ideal .f32) = (⊥ : EReal) := by
  show Ideal.ofBits .f32 0xFF800000#32 = ⊥
  simp [Ideal.ofBits, Ideal.ieee]

/-- The row maximum at row `r`. -/
theorem rowMax_apply (X : FVec Ideal S256x8192 .f32) (r : Fin 256) :
    multiReduction .maximumf [1] S256 X 0xFF800000#32 reduces_S256x8192_S256 (.inl rfl) rfl (ix1 r)
      = (Finset.univ : Finset (Fin 8192)).fold max (⊥ : EReal) (fun k => X (ix2 r k)) := by
  refine (Ideal.multiReduction_maximumf_single X _ reduces_S256x8192_S256 _ _ (ix1 r)).trans ?_
  rw [ofBits_neg_inf]
  refine congrArg (fun f => Finset.fold max (⊥ : EReal) f Finset.univ) (funext fun k => ?_)
  exact congrArg X (lift_eq r k)

/-- An entry is the row maximum exactly when no entry of the row is greater. -/
theorem eq_fold_max_iff (y : Fin 8192 → EReal) (j : Fin 8192) :
    y j = (Finset.univ : Finset (Fin 8192)).fold max (⊥ : EReal) y ↔ ∀ k, y k ≤ y j := by
  constructor
  · intro e k
    rw [e]
    exact (Finset.le_fold_max (y k)).mpr (Or.inr ⟨k, Finset.mem_univ k, le_refl _⟩)
  · intro h
    refine le_antisymm ((Finset.le_fold_max (y j)).mpr (Or.inr ⟨j, Finset.mem_univ j, le_refl _⟩)) ?_
    exact (Finset.fold_max_le (y j)).mpr ⟨bot_le, fun k _ => h k⟩

/-- A fold over the indices that drop to row `r` is the fold over the row's columns. -/
theorem fold_row {α : Type} (op : α → α → α) [Std.Commutative op] [Std.Associative op] (init : α) (x : S256x8192.Idx → α)
    (r : Fin 256) :
    (Finset.univ.filter fun i => Shape.Reduces.drop (axes := [1]) reduces_S256x8192_S256 i = ix1 r).fold op init x
      = (Finset.univ : Finset (Fin 8192)).fold op init (fun k => x (ix2 r k)) := by
  classical
  refine (Shape.Reduces.fold_filter_drop_single (s := S256x8192) (a := (1 : Fin 2)) reduces_S256x8192_S256 op init x (ix1 r)).trans ?_
  exact congrArg (fun f => Finset.fold op init f Finset.univ) (funext fun k => congrArg x (lift_eq r k))

/-- The row minimum of 32-bit words at row `r`, as an integer. -/
theorem rowMin_apply (W : IVec S256x8192 32) (r : Fin 256) :
    (multiReductionI .minsi [1] S256 W 2147483647#32 reduces_S256x8192_S256 rfl (ix1 r)).toInt
      = (Finset.univ : Finset (Fin 8192)).fold min (2147483647 : Int) (fun k => (W (ix2 r k)).toInt) := by
  have h1 : multiReductionI .minsi [1] S256 W 2147483647#32 reduces_S256x8192_S256 rfl (ix1 r)
      = (Finset.univ : Finset (Fin 8192)).fold IKind.minsi.op 2147483647#32 (fun k => W (ix2 r k)) := by
    refine (multiReductionI_eq_fold .minsi W 2147483647#32 reduces_S256x8192_S256 rfl (ix1 r)).trans ?_
    exact fold_row _ _ W r
  have h := Finset.fold_hom (op := IKind.minsi.op) (op' := (min : Int → Int → Int)) (m := BitVec.toInt)
    (b := 2147483647#32) (s := (Finset.univ : Finset (Fin 8192))) (f := fun k => W (ix2 r k))
    (fun x y => SortNet.toInt_minsi x y)
  rw [show (2147483647#32).toInt = (2147483647 : Int) by decide] at h
  rw [h1]
  exact h.symm

/-! ## The marked position -/

/-- The word a round takes the minimum of at position `k`: `k` where the entry is the greatest, a large number elsewhere. -/
theorem first_eq (y : Fin 8192 → EReal) (j : Fin 8192) (hj : IsFirstMax y j) (w : Fin 8192 → Int)
    (hw : ∀ k, w k = if (∀ l, y l ≤ y k) then (k.val : Int) else 1073741824) :
    (Finset.univ : Finset (Fin 8192)).fold min (2147483647 : Int) w = (j.val : Int) := by
  have hmax : ∀ k, (∀ l, y l ≤ y k) ↔ y k = y j := fun k =>
    ⟨fun h => le_antisymm (hj.1 k) (h j), fun e l => by rw [e]; exact hj.1 l⟩
  refine le_antisymm ?_ ?_
  · refine (Finset.fold_min_le _).mpr (Or.inr ⟨j, Finset.mem_univ j, ?_⟩)
    rw [hw, if_pos hj.1]
  · have hlt : j.val < 8192 := j.isLt
    refine (Finset.le_fold_min _).mpr ⟨by omega, fun k _ => ?_⟩
    rw [hw]
    split
    · next h =>
      have : j.val ≤ k.val := hj.2 k ((hmax k).mp h)
      omega
    · omega

/-- Two words compared for equality: the bit is set exactly when they are equal. -/
theorem cmpi_eq_iff (a b : BitVec 32) : IntOp.cmpi .eq a b = 1#1 ↔ a = b := by
  show BitVec.ofBool (a == b) = 1#1 ↔ a = b
  by_cases h : a = b
  · simp [h]
  · rw [show (a == b) = false from beq_eq_false_iff_ne.mpr h]
    simp [h]

/-- The column number at an index, as an integer. -/
theorem iota_toInt (r : Fin 256) (j : Fin 8192) :
    (iota .tc S256x8192 32 [1] iota_S256x8192_d1_w32 (ix2 r j)).toInt = (j.val : Int) := by
  rw [iota_single_apply]
  show (BitVec.ofNat 32 j.val).toInt = _
  have := j.isLt
  rw [BitVec.toInt_eq_toNat_of_lt (by simp only [BitVec.toNat_ofNat]; omega), BitVec.toNat_ofNat]
  omega

/-- The words a round takes each row's minimum of: the column number where the entry is the row's maximum. -/
def firstWords (X : FVec Ideal S256x8192 .f32) : IVec S256x8192 32 :=
  select (cmpf .oeq X (broadcastTo S256x8192 (shapeCast S256x1
      (multiReduction .maximumf [1] S256 X 0xFF800000#32 reduces_S256x8192_S256 (.inl rfl) rfl)
      shapeCasts_S256_S256x1) broadcasts_S256x1_S256x8192))
    (iota .tc S256x8192 32 [1] iota_S256x8192_d1_w32) (broadcast S256x8192 1073741824#32)

/-- They are the column number at a greatest entry and 2³⁰ elsewhere. -/
theorem firstWords_toInt (X : FVec Ideal S256x8192 .f32) (r : Fin 256) (k : Fin 8192) :
    (firstWords X (ix2 r k)).toInt
      = if (∀ l, (X (ix2 r l) : EReal) ≤ X (ix2 r k)) then (k.val : Int) else 1073741824 := by
  unfold firstWords
  rw [select_apply, cmpf_apply, spread_apply, rowMax_apply]
  have hc : ∀ a b : EReal, FloatOps.cmpf (F := Ideal) (φ := .f32) .oeq a b = if a = b then 1#1 else 0#1 := fun a b => by
    by_cases h : a = b <;> simp [h, FloatOps.cmpf, Ideal.cmp]
  rw [hc]
  by_cases h : ∀ l, (X (ix2 r l) : EReal) ≤ X (ix2 r k)
  · rw [if_pos ((eq_fold_max_iff (fun k => X (ix2 r k)) k).mpr h), if_pos h, select_one, iota_toInt]
  · rw [if_neg (fun e => h ((eq_fold_max_iff (fun k => X (ix2 r k)) k).mp e)), if_neg h, select_zero]
    rfl

/-- In row `r` a round marks position `j` exactly when `j` is the row's first maximum. -/
theorem hit_iff (X : FVec Ideal S256x8192 .f32) (r : Fin 256) (j : Fin 8192) :
    k0_pay1 (F := Ideal) X (ix2 r j) = 1#1 ↔ IsFirstMax (fun k => (X (ix2 r k) : EReal)) j := by
  obtain ⟨p, hp⟩ := exists_isFirstMax (by decide : 0 < 8192) (fun k => (X (ix2 r k) : EReal))
  have hfirst := first_eq _ p hp (fun k => (firstWords X (ix2 r k)).toInt) (firstWords_toInt X r)
  rw [← rowMin_apply] at hfirst
  have e : k0_pay1 (F := Ideal) X (ix2 r j)
      = IntOp.cmpi .eq (iota .tc S256x8192 32 [1] iota_S256x8192_d1_w32 (ix2 r j))
          (broadcastTo S256x8192 (shapeCast S256x1
            (multiReductionI .minsi [1] S256 (firstWords X) 2147483647#32 reduces_S256x8192_S256 rfl)
            shapeCasts_S256_S256x1) broadcasts_S256x1_S256x8192 (ix2 r j)) := rfl
  rw [e, spread_apply, cmpi_eq_iff]
  rw [← BitVec.toInt_inj, hfirst, iota_toInt]
  constructor
  · intro h
    have : j = p := Fin.ext (by exact_mod_cast h)
    rw [this]; exact hp
  · intro h
    rw [h.unique hp]

end Cert.Round

end
-- ==== Proof.Marks.lean ====
/- What one block of the kernel stores: the matrix product of the marks that fifteen rounds leave with the second operand.
   The rounds are one function of the block, repeated. -/
module

public import proofs.«01_k».proof.Proof.Gen.KernelIdeal.Frame
public import Idealize.ShloMosaic.Lib.Pipeline.Value

@[expose] public section

noncomputable section

namespace Cert.Marks

open Idealize.ShloMosaic Cert.KernelIdeal Cert.KernelIdeal.Gen

variable {F : FTy → Type} [FloatOps F]

/-- The block after `t` rounds: each round replaces the positions it marks. -/
def rows (v : Vec F S256x8192 .f32) : Nat → FVec F S256x8192 .f32
  | 0 => v
  | t + 1 => k0_pay2 (rows v t)

/-- The marks after `t` rounds: all zero at first, and one wherever a round marks a position. -/
def marks (v : Vec F S256x8192 .f32) : Nat → FVec F S256x8192 .f32
  | 0 => broadcast S256x8192 (Scalar.ofBits .f32 0x00000000#32)
  | t + 1 => select (k0_pay1 (rows v t)) (broadcast S256x8192 (Scalar.ofBits .f32 0x3F800000#32)) (marks v t)

/-- The column numbers of a block. -/
abbrev cols : IVec S256x8192 32 := iota .tc S256x8192 32 [1] iota_S256x8192_d1_w32

variable (v : Vec F S256x8192 .f32)

/-- The first group of rounds leaves two rounds' rows. -/
theorem rows2 : k0_pay5 v = rows v 2 := rfl
/-- It leaves two rounds' marks. -/
theorem marks2 : k0_pay4 v = marks v 2 := rfl
/-- It leaves the third round's hits. -/
theorem hits3 : k0_pay6 v = k0_pay1 (rows v 2) := rfl

/-- The second group leaves five rounds' rows. -/
theorem rows5 : k0_pay12 cols (rows v 2) (k0_pay1 (rows v 2)) = rows v 5 := rfl
/-- It leaves the sixth round's hits. -/
theorem hits6 : k0_pay13 cols (rows v 2) (k0_pay1 (rows v 2)) = k0_pay1 (rows v 5) := rfl
/-- It leaves six rounds' marks. -/
theorem marks6 : k0_pay14 cols (marks v 2) (rows v 2) (k0_pay1 (rows v 2)) (k0_pay7 (F := F)) = marks v 6 := rfl

/-- The third group leaves nine rounds' rows. -/
theorem rows9 : k0_pay23 cols (rows v 5) (k0_pay1 (rows v 5)) (k0_pay15 (F := F)) = rows v 9 := rfl
/-- It leaves nine rounds' marks. -/
theorem marks9 : k0_pay22 cols (rows v 5) (k0_pay1 (rows v 5)) (marks v 6) (k0_pay15 (F := F)) = marks v 9 := rfl

/-- The greatest entry of each row. -/
abbrev greatest (x : FVec F S256x8192 .f32) : FVec F S256 .f32 :=
  multiReduction .maximumf [1] S256 x 0xFF800000#32 reduces_S256x8192_S256 (.inl rfl) rfl

/-- Where an entry equals the greatest of its row. -/
abbrev ties (x : FVec F S256x8192 .f32) : IVec S256x8192 1 :=
  cmpf .oeq x (broadcastTo S256x8192 (shapeCast S256x1 (greatest x) shapeCasts_S256_S256x1) broadcasts_S256x1_S256x8192)

/-- The third group leaves also the rows' greatest entries for the tenth round. -/
theorem greatest9 : k0_pay24 cols (rows v 5) (k0_pay1 (rows v 5)) (k0_pay15 (F := F)) = greatest (rows v 9) := rfl

/-- The fourth group leaves twelve rounds' rows. -/
theorem rows12 : k0_pay31 cols (rows v 9) (greatest (rows v 9)) = rows v 12 := rfl
/-- It leaves twelve rounds' marks. -/
theorem marks12 : k0_pay30 cols (marks v 9) (rows v 9) (greatest (rows v 9)) = marks v 12 := rfl
/-- It leaves the places where the thirteenth round's rows have their greatest entry. -/
theorem ties12 : k0_pay32 cols (rows v 9) (greatest (rows v 9)) = ties (rows v 12) := rfl

/-- The product of fifteen rounds' marks with the second operand's block. -/
def stored (v : Vec F S256x8192 .f32) (w : Vec F S8192x256 .bf16) : FVec F S256x256 .f32 :=
  matmul dot_S256x8192_S8192x256_S256x256_1_0_0_1_n_n none (truncf .bf16 (marks v 15) bitsLt_bf16_f32)
    (shapeCast S8192x256 w shapeCasts_S8192x256_S8192x256) (constant S256x256 .f32 0x00000000#32)

/-- The last group leaves that product. -/
theorem stored_eq (w : Vec F S8192x256 .bf16) :
    k0_pay33 cols (marks v 12) (rows v 12) (ties (rows v 12)) w = stored v w := rfl

/-- The two offsets of a whole buffer are zero. -/
theorem offsets_zero : (![0, 0] : Fin 2 → Nat) = fun _ => 0 := funext fun a => by fin_cases a <;> rfl

/-- What the body leaves in the result's buffer, from its two blocks. -/
theorem out_eq (x : Vec F S256x8192 .f32) (w : Vec F S8192x256 .bf16) : out0_2 x w = stored x w := by
  unfold out0_2 k0_pay41 k0_pay40 k0_pay39 k0_pay38 k0_pay37 k0_pay36 k0_pay35 k0_pay34
  rw [View.canon_unit_zero offsets_zero, View.ld_unit_zero offsets_zero, View.ld_unit_zero offsets_zero]
  rw [rows2, marks2, hits3, rows5, hits6, marks6, rows9, marks9, greatest9, rows12, marks12, ties12, stored_eq]

end Cert.Marks

end
-- ==== Proof.Block.lean ====
/- One block's result at an index, at the exact values: the sum over the columns of the second operand's entries at the
   fifteen columns of least rank in the row. -/
module

public import proofs.«01_k».proof.Proof.Round
public import proofs.«01_k».proof.Proof.Marks
public import Idealize.ShloMosaic.Lib.IdealHost
public import Idealize.ShloMosaic.Lib.MatmulPlain

@[expose] public section

noncomputable section

namespace Cert.Block

open Idealize.ShloMosaic Idealize.ShloMosaic.ValueIdx Cert.KernelIdeal Cert.KernelIdeal.Gen Cert.Selection Cert.Marks

/-- The value that replaces a marked entry. -/
def low : EReal := Ideal.ofBits .f32 0xFF7FC99E#32

/-- One at the fifteen positions of least rank in a row, zero elsewhere. -/
def topMask (x : Fin 8192 → EReal) (j : Fin 8192) : EReal := if (rank x j).val < 15 then 1 else 0

variable (v : Vec Ideal S256x8192 .f32)

/-- Row `r` of the block after `t` rounds. -/
def rowAt (r : Fin 256) (t : Nat) (k : Fin 8192) : EReal := rows (F := Ideal) v t (ix2 r k)

/-- The position round `t + 1` marks in row `r`. -/
def pick (r : Fin 256) (t : Nat) : Fin 8192 := (exists_isFirstMax (by decide : 0 < 8192) (rowAt v r t)).choose

/-- It is the row's first maximum. -/
theorem pick_first (r : Fin 256) (t : Nat) : IsFirstMax (rowAt v r t) (pick v r t) :=
  (exists_isFirstMax (by decide : 0 < 8192) (rowAt v r t)).choose_spec

/-- A round marks the picked position of a row and no other. -/
theorem hit_apply (r : Fin 256) (t : Nat) (j : Fin 8192) :
    k0_pay1 (F := Ideal) (rows v t) (ix2 r j) = if j = pick v r t then 1#1 else 0#1 := by
  have h := Round.hit_iff (rows (F := Ideal) v t) r j
  by_cases e : j = pick v r t
  · rw [if_pos e]
    exact h.mpr (e ▸ pick_first v r t)
  · rw [if_neg e]
    exact eq_zero_of_ne_one fun e' => e ((h.mp e').unique (pick_first v r t))

/-- A row's rounds replace its first maximum by `low`, one after another. -/
theorem rounds (r : Fin 256) : Rounds low (fun k => v (ix2 r k)) (rowAt v r) (pick v r) where
  start := rfl
  first := pick_first v r
  step t p := by
    have e : rowAt v r (t + 1) p
        = Scalar.select (k0_pay1 (F := Ideal) (rows v t) (ix2 r p)) low (rowAt v r t p) := rfl
    rw [e, hit_apply]
    by_cases h : p = pick v r t
    · rw [if_pos h, if_pos h, select_one]
    · rw [if_neg h, if_neg h, select_zero]

/-- After `t` rounds the marks are one at the picked positions and zero elsewhere. -/
theorem marks_apply (r : Fin 256) (t : Nat) (j : Fin 8192) :
    (marks (F := Ideal) v t (ix2 r j) : EReal) = if ∃ i < t, pick v r i = j then 1 else 0 := by
  induction t with
  | zero =>
    rw [if_neg (fun ⟨i, hi, _⟩ => absurd hi (Nat.not_lt_zero i))]
    exact Ideal.ofBits_zero_f32
  | succ t ih =>
    have e : (marks (F := Ideal) v (t + 1) (ix2 r j) : EReal)
        = Scalar.select (k0_pay1 (F := Ideal) (rows v t) (ix2 r j)) (Ideal.ofBits .f32 0x3F800000#32)
            (marks (F := Ideal) v t (ix2 r j)) := rfl
    rw [e, hit_apply]
    by_cases h : j = pick v r t
    · rw [if_pos h, select_one, if_pos ⟨t, Nat.lt_succ_self t, h.symm⟩]
      exact Ideal.ofBits_one_f32
    · rw [if_neg h, select_zero, ih]
      refine if_congr ⟨fun ⟨i, hi, e⟩ => ⟨i, Nat.lt_succ_of_lt hi, e⟩, fun ⟨i, hi, e⟩ => ⟨i, ?_, e⟩⟩ rfl rfl
      exact lt_of_le_of_ne (Nat.le_of_lt_succ hi) fun e' => h (by rw [← e, e'])

/-- In a row with fifteen entries above `low` the fifteen marks are the top mask. -/
theorem marks_eq_topMask (r : Fin 256) (h : 15 ≤ (Finset.univ.filter fun p : Fin 8192 => low < v (ix2 r p)).card) (j : Fin 8192) :
    (marks (F := Ideal) v 15 (ix2 r j) : EReal) = topMask (fun k => v (ix2 r k)) j := by
  rw [marks_apply]
  exact if_congr ((rounds v r).rank_lt_iff h (by decide) j).symm rfl rfl

/-- The product's dimension numbers are the plain ones. -/
theorem dims_plain : dot_S256x8192_S8192x256_S256x256_1_0_0_1_n_n = DotDims.plain 256 8192 256 := rfl

/-- The block stored, at an index: the top mask's row times the second operand's column. -/
theorem stored_apply (w : Vec Ideal S8192x256 .bf16) (r c : Fin 256)
    (h : 15 ≤ (Finset.univ.filter fun p : Fin 8192 => low < v (ix2 r p)).card) :
    (stored (F := Ideal) v w (ix2 r c) : EReal) = ∑ k : Fin 8192, topMask (fun k => v (ix2 r k)) k * (w (ix2 k c) : EReal) := by
  unfold stored
  rw [dims_plain]
  refine (Ideal.matmul_plain_apply _ _ _ _ r c).trans ?_
  rw [constant_apply, Ideal.ofBits_zero_f32, zero_add]
  refine Finset.sum_congr rfl fun k _ => ?_
  rw [shapeCast_self, truncf_apply]
  exact congrArg (· * (w (ix2 k c) : EReal)) (marks_eq_topMask v r h k)

end Cert.Block

end
-- ==== Proof.Array.lean ====
/- The kernel's result array after the run, at the exact values: each block is that of one function of the two argument
   arrays, and the sixteen blocks cover the array. -/
module

public import proofs.«01_k».proof.Proof.Block
public import proofs.«01_k».proof.Proof.Gen.KernelIdeal.Value
public import Idealize.ShloMosaic.Lib.StableHlo.Run
public import Idealize.ShloMosaic.Lib.ValueLayout

@[expose] public section

noncomputable section

namespace Cert.Array

open Idealize.ShloMosaic Idealize.ShloMosaic.TcCoe Idealize.ShloMosaic.ValueIdx Idealize.SL.Sem
open Cert.KernelIdeal Cert.KernelIdeal.Gen Cert.Selection Cert.Marks Cert.Block

/-- The result both programs compute: at `(i, c)` the sum of row `c` of the second argument over the fifteen columns of
    least rank in row `i` of the first. -/
def result (x : Vec Ideal S4096x8192 .f32) (w : Vec Ideal S256x8192 .f32) : Vec Ideal S4096x256 .f32 := fun i =>
  (∑ k : Fin 8192, topMask (fun k => x (ix2 (i 0) k)) k * (w (ix2 (i 1) k) : EReal) : EReal)

/-- Every row has fifteen entries above the value that replaces a marked one. -/
def Enough (x : Vec Ideal S4096x8192 .f32) : Prop :=
  ∀ i : Fin 4096, 15 ≤ (Finset.univ.filter fun p : Fin 8192 => low < (x (ix2 i p) : EReal)).card

variable (m : (ℓ : Loc nD τ sig) → Buf (Elt Ideal) ℓ) (ρ : Dev nD → PrngReg)

/-- The second operand as the kernel finds it: the second argument transposed. -/
theorem weights (c : Dev nD) :
    (V m c main_v1 : Vec Ideal S8192x256 .bf16) = truncf (F := Ideal) (φ := .f32) .bf16
      (transpose S8192x256 [1, 0] (m ((c : Thread nD τ).loc main_arg1) : Vec Ideal S256x8192 .f32) transposes_S256x8192_S8192x256_1_0)
      bitsLt_bf16_f32 := by
  unfold V hostOps0
  after_results

/-- The first window moves down the rows with the point. -/
theorem idx0 : ∀ t : Fin cfg0.N, win0_0.index t (0 : Fin 2) = t.val ∧ win0_0.index t (1 : Fin 2) = 0 :=
  (by decide +kernel : ∀ t : Fin grid0.N, _)
/-- The second window's block is the whole array at every point. -/
theorem idx1 : ∀ t : Fin cfg0.N, win0_1.index t (0 : Fin 2) = 0 ∧ win0_1.index t (1 : Fin 2) = 0 :=
  (by decide +kernel : ∀ t : Fin grid0.N, _)
/-- The result window moves down the rows with the point. -/
theorem idx2 : ∀ t : Fin cfg0.N, win0_2.index t (0 : Fin 2) = t.val ∧ win0_2.index t (1 : Fin 2) = 0 :=
  (by decide +kernel : ∀ t : Fin grid0.N, _)

/-- Row `r` of point `t`'s block in the whole array. -/
def rowOf (t : Fin cfg0.N) (r : Fin 256) : Fin 4096 :=
  ⟨t.val * 256 + r.val, by have := t.isLt; have := r.isLt; have : cfg0.N = 16 := N_0; omega⟩

/-- An index of the first window's block is, in the array, the same column of row `rowOf t r`. -/
theorem emb0 (t : Fin cfg0.N) (r : Fin 256) (k : Fin 8192) :
    ((cfg0.win 0).blk t).view.emb (ix2 r k : S256x8192.Idx) = (ix2 (rowOf t r) k : S4096x8192.Idx) := by
  obtain ⟨e0, e1⟩ := idx0 t
  funext a; apply Fin.ext
  match a with
  | ⟨0, _⟩ => show win0_0.index t (0 : Fin 2) * 256 + 1 * r.val = t.val * 256 + r.val; omega
  | ⟨1, _⟩ => show win0_0.index t (1 : Fin 2) * 8192 + 1 * k.val = k.val; omega

/-- An index of the second window's block is the same index of the array. -/
theorem emb1 (t : Fin cfg0.N) (j : S8192x256.Idx) : ((cfg0.win 1).blk t).view.emb j = j := by
  obtain ⟨e0, e1⟩ := idx1 t
  funext a; apply Fin.ext
  match a with
  | ⟨0, _⟩ => show win0_1.index t (0 : Fin 2) * 8192 + 1 * (j 0).val = (j 0).val; omega
  | ⟨1, _⟩ => show win0_1.index t (1 : Fin 2) * 256 + 1 * (j 1).val = (j 1).val; omega

/-- An index of the result window's block is, in the array, the same column of row `rowOf t r`. -/
theorem emb2 (t : Fin cfg0.N) (r : Fin 256) (k : Fin 256) :
    ((cfg0.win 2).blk t).view.emb (ix2 r k : S256x256.Idx) = (ix2 (rowOf t r) k : S4096x256.Idx) := by
  obtain ⟨e0, e1⟩ := idx2 t
  funext a; apply Fin.ext
  match a with
  | ⟨0, _⟩ => show win0_2.index t (0 : Fin 2) * 256 + 1 * r.val = t.val * 256 + r.val; omega
  | ⟨1, _⟩ => show win0_2.index t (1 : Fin 2) * 256 + 1 * k.val = k.val; omega

/-- The first window's block holds rows of the first argument. -/
theorem iblk0_apply (c : Dev nD) (t : Fin cfg0.N) (r : Fin 256) (k : Fin 8192) :
    (iblk m c 0 t : Vec Ideal S256x8192 .f32) (ix2 r k) = m ((c : Thread nD τ).loc main_arg0) (ix2 (rowOf t r) k) := by
  show V m c main_arg0 (((cfg0.win 0).blk t).view.emb (ix2 r k : S256x8192.Idx)) = _
  rw [emb0, V_main_arg0]

/-- The second window's block holds the second argument, its axes exchanged. -/
theorem iblk1_apply (c : Dev nD) (t : Fin cfg0.N) (k : Fin 8192) (q : Fin 256) :
    (iblk m c 1 t : Vec Ideal S8192x256 .bf16) (ix2 k q) = m ((c : Thread nD τ).loc main_arg1) (ix2 q k) := by
  show V m c main_v1 (((cfg0.win 1).blk t).view.emb (ix2 k q : S8192x256.Idx)) = _
  rw [emb1]
  refine (congrFun (weights m c) (ix2 k q)).trans ?_
  exact transpose_ix2_apply _ _ k q

/-- The whole of an output block is what is written back of it. -/
theorem cut2_apply (t : Fin cfg0.N) (X : Vec Ideal S256x256 .f32) (j : S256x256.Idx) :
    (cfg0.win 2).cut (grid0.coords t) X j = X j := rfl

/-- The block of an array of results at a point, at an entry. -/
theorem read2_apply (t : Fin cfg0.N) (G : Vec Ideal S4096x256 .f32) (r q : Fin 256) :
    ((cfg0.win 2).blk t).view.read (Elt Ideal) G (ix2 r q : S256x256.Idx) = G (ix2 (rowOf t r) q) := by
  show G (((cfg0.win 2).blk t).view.emb (ix2 r q : S256x256.Idx)) = _
  rw [emb2]

/-- What a point writes back is its block of the result. -/
theorem flushed_eq (c : Dev nD) (h : Enough (m ((c : Thread nD τ).loc main_arg0))) (t : Fin cfg0.N) :
    (dats m 0 c).flushed 2 t = ((cfg0.win 2).blk t).view.read (Elt Ideal)
      (result (m ((c : Thread nD τ).loc main_arg0)) (m ((c : Thread nD τ).loc main_arg1))) := by
  rw [Cert.KernelIdeal.Value.flushed2, out_eq]
  funext j
  obtain ⟨r, q, rfl⟩ : ∃ (r q : Fin 256), j = (ix2 r q : S256x256.Idx) := ⟨j 0, j 1, eq_ix2 j⟩
  refine (cut2_apply t _ _).trans (Eq.trans ?_ (read2_apply t _ r q).symm)
  have hrow : (fun k : Fin 8192 => ((iblk m c 0 t : Vec Ideal S256x8192 .f32) (ix2 r k) : EReal))
      = fun k => m ((c : Thread nD τ).loc main_arg0) (ix2 (rowOf t r) k) := funext fun k => iblk0_apply m c t r k
  have hen : 15 ≤ (Finset.univ.filter fun p : Fin 8192 => low < ((iblk m c 0 t : Vec Ideal S256x8192 .f32) (ix2 r p) : EReal)).card := by
    have := h (rowOf t r)
    have e : ∀ p : Fin 8192, ((iblk m c 0 t : Vec Ideal S256x8192 .f32) (ix2 r p) : EReal)
        = m ((c : Thread nD τ).loc main_arg0) (ix2 (rowOf t r) p) := fun p => iblk0_apply m c t r p
    simp only [e]
    exact this
  refine (stored_apply _ _ r q hen).trans ?_
  rw [hrow]
  refine Finset.sum_congr rfl fun k _ => ?_
  exact congrArg (topMask _ k * ·) (iblk1_apply m c t k q)

/-- An index of the result array is in point `t`'s block when its row is one of the block's 256. -/
theorem mem_blk (t : Fin cfg0.N) (i : S4096x256.Idx) (hi : t.val * 256 ≤ (i 0).val ∧ (i 0).val < t.val * 256 + 256) :
    i ∈ ((cfg0.win 2).blk t).view.set := by
  have e := emb2 t ⟨(i 0).val - t.val * 256, by omega⟩ (i 1)
  have e' : (ix2 (rowOf t ⟨(i 0).val - t.val * 256, by omega⟩) (i 1) : S4096x256.Idx) = i := by
    funext a; apply Fin.ext
    match a with
    | ⟨0, _⟩ => show t.val * 256 + ((i 0).val - t.val * 256) = (i 0).val; omega
    | ⟨1, _⟩ => rfl
  rw [← e', ← e]
  exact ((cfg0.win 2).blk t).view.emb_mem_set _

/-- Every index of the result array is in some point's block. -/
theorem covered (i : S4096x256.Idx) : ∃ t : Fin cfg0.N, (cfg0.win 2).flush t = true ∧ i ∈ ((cfg0.win 2).blk t).view.set := by
  have h0 : (i 0).val < 4096 := (i 0).isLt
  have hN : cfg0.N = 16 := N_0
  refine ⟨⟨(i 0).val / 256, by omega⟩, flush0_2 _, mem_blk _ i ?_⟩
  dsimp only
  omega

/-- The result array after the run. -/
theorem final (c : Dev nD) (h : Enough (m ((c : Thread nD τ).loc main_arg0))) :
    (dats m 0 c).arrAt 2 cfg0.N = result (m ((c : Thread nD τ).loc main_arg0)) (m ((c : Thread nD τ).loc main_arg1)) :=
  (dats m 0 c).arrAt_eq_of_cover 2 _ (fun t _ => flushed_eq m c h t) covered

end Cert.Array

end
-- ==== Proof.Reference.lean ====
/- What the reference computes, at the exact values: its two sorts give each entry its rank in the row, and its product sums
   the weights at the entries of rank below fifteen. -/
module

public import proofs.«01_k».proof.Proof.Array
public import proofs.«01_k».proof.Proof.Gen.ReferenceIdeal.Run
public import Idealize.ShloMosaic.Lib.StackMember

@[expose] public section

noncomputable section

namespace Cert.Reference

open Idealize.ShloMosaic Idealize.ShloMosaic.ValueIdx Cert.ReferenceIdeal Cert.ReferenceIdeal.Gen Cert.Selection Cert.Block

/-- Two rows sorted together along the second axis: the second one's entry at place `k` of row `i` is the entry at the
    position the sort takes from there. -/
theorem sort2_row {α β : Type} (cmp : α × β → α × β → BitVec 1) (x : S4096x8192.Idx → α) (y : S4096x8192.Idx → β) (i : Fin 4096)
    (B : Fin 8192 → Fin 8192 → Bool)
    (hB : ∀ a b, (cmp (x (ix2 i a), y (ix2 i a)) (x (ix2 i b), y (ix2 i b)) == 1#1) = B a b) (k : Fin 8192) :
    (Host.sort2 S4096x8192 1 cmp x y).2 (ix2 i k) = y (ix2 i (sortedFrom B k)) := by
  have hd : 1 < S4096x8192.rank := Nat.one_lt_two
  have e : ∀ c : Fin 8192, (ix2 i k : S4096x8192.Idx).along (⟨1, hd⟩ : Fin S4096x8192.rank) c = ix2 i c := fun c => by
    funext d
    match d with
    | ⟨0, _⟩ => rfl
    | ⟨1, _⟩ => rfl
  have hb : (fun a b : Fin 8192 => cmp (x ((ix2 i k : S4096x8192.Idx).along ⟨1, hd⟩ a), y ((ix2 i k : S4096x8192.Idx).along ⟨1, hd⟩ a))
      (x ((ix2 i k : S4096x8192.Idx).along ⟨1, hd⟩ b), y ((ix2 i k : S4096x8192.Idx).along ⟨1, hd⟩ b)) == 1#1) = B := by
    funext a b
    rw [e a, e b]
    exact hB a b
  unfold Host.sort2
  rw [dif_pos hd]
  exact (congrArg (fun B' : Fin 8192 → Fin 8192 → Bool =>
    y ((ix2 i k : S4096x8192.Idx).along ⟨1, hd⟩ (sortedFrom B' k))) hb).trans (congrArg y (e _))

/-- The first sort's comparison, at the exact values: the first entry is below the second. -/
theorem comparator_f32_eq (l r : EReal × BitVec 32) :
    (comparator_f32_i32_d1 (F := Ideal) l r == 1#1) = decide (l.1 < r.1) := by
  have hz : ∀ a : EReal, Scalar.select (FloatOps.cmpf (F := Ideal) (φ := .f32) .oeq a (FloatOps.ofBits .f32 0x00000000#32))
      (FloatOps.ofBits (F := Ideal) .f32 0x00000000#32) a = a := fun a => by
    have h0 : (FloatOps.ofBits .f32 0x00000000#32 : Ideal .f32) = (0 : EReal) := Ideal.ofBits_zero_f32
    rw [h0]
    by_cases h : a = 0
    · subst h
      simp [FloatOps.cmpf, Ideal.cmp, Scalar.select]
    · simp [FloatOps.cmpf, Ideal.cmp, Scalar.select, h]
  have hn : ∀ a b c : EReal, Scalar.select (FloatOps.cmpf (F := Ideal) (φ := .f32) .une a a) b c = c := fun a b c => by
    simp [FloatOps.cmpf, Ideal.cmp, Scalar.select]
  have e : comparator_f32_i32_d1 (F := Ideal) l r = FloatOps.cmpfTotal (F := Ideal) (φ := .f32) .lt l.1 r.1 := by
    unfold comparator_f32_i32_d1
    dsimp only
    rw [hz l.1, hz r.1, hn, hn]
  rw [e]
  show (BitVec.ofBool (decide (l.1 < r.1)) == 1#1) = _
  by_cases h : l.1 < r.1 <;> simp [h]

/-- The second sort's comparison on the words of two column numbers. -/
theorem comparator_i32_eq (a b : Fin 8192) (u v : BitVec 32) :
    (comparator_i32_i32_d1 (BitVec.ofNat 32 a.val, u) (BitVec.ofNat 32 b.val, v) == 1#1) = decide (a < b) := by
  have ha := a.isLt
  have hb := b.isLt
  show (BitVec.ofBool ((BitVec.ofNat 32 a.val).slt (BitVec.ofNat 32 b.val)) == 1#1) = _
  have e : (BitVec.ofNat 32 a.val).slt (BitVec.ofNat 32 b.val) = decide (a < b) := by
    rw [BitVec.slt_eq_decide, BitVec.toInt_eq_toNat_of_lt (by simp only [BitVec.toNat_ofNat]; omega),
      BitVec.toInt_eq_toNat_of_lt (by simp only [BitVec.toNat_ofNat]; omega), BitVec.toNat_ofNat, BitVec.toNat_ofNat,
      Nat.mod_eq_of_lt (by omega), Nat.mod_eq_of_lt (by omega)]
    exact decide_eq_decide.mpr Int.ofNat_lt
  rw [e]
  by_cases h : a < b <;> simp [h]

variable (x : FVec Ideal S4096x8192 .f32) (w : FVec Ideal S256x8192 .f32)

/-- The first sort: place `k` of row `i` holds the word of the column whose entry stands there. -/
def order : IVec S4096x8192 32 := (Host.sort2 S4096x8192 1 comparator_f32_i32_d1 (Host.negf x) (iotaInDim S4096x8192 32 1)).2

/-- The word is that of the position the stable sort by entries, greatest first, takes from there. -/
theorem order_apply (i : Fin 4096) (k : Fin 8192) :
    order x (ix2 i k) = BitVec.ofNat 32 (sortedFrom (before fun k => (x (ix2 i k) : EReal)) k).val := by
  unfold order
  refine (sort2_row _ _ _ i (fun a b => decide ((x (ix2 i b) : EReal) < x (ix2 i a))) (fun a b => ?_) k).trans ?_
  · refine (comparator_f32_eq _ _).trans ?_
    have e : (-(x (ix2 i a) : EReal) < -(x (ix2 i b) : EReal)) ↔ (x (ix2 i b) : EReal) < x (ix2 i a) := EReal.neg_lt_neg_iff
    exact decide_eq_decide.mpr e
  · rw [sortedFrom_entries fun k => (x (ix2 i k) : EReal)]
    rfl

/-- The second sort: column `j` of row `i` holds the word of its entry's rank. -/
theorem ranks_apply (i : Fin 4096) (j : Fin 8192) :
    (Host.sort2 S4096x8192 1 comparator_i32_i32_d1 (order x) (iotaInDim S4096x8192 32 1)).2 (ix2 i j)
      = BitVec.ofNat 32 (rank (fun k => (x (ix2 i k) : EReal)) j).val := by
  refine (sort2_row _ _ _ i (fun a b => decide (sortedFrom (before fun k => (x (ix2 i k) : EReal)) a
    < sortedFrom (before fun k => (x (ix2 i k) : EReal)) b)) (fun a b => ?_) j).trans rfl
  rw [order_apply, order_apply]
  exact comparator_i32_eq _ _ _ _

/-- The reference's mask: one where the rank is below fifteen. -/
def mask : FVec Ideal S4096x8192 .f32 :=
  uitofp .f32 (cmpi .slt ((Host.sort2 S4096x8192 1 comparator_i32_i32_d1 (order x) (iotaInDim S4096x8192 32 1)).2)
    (broadcastInDim S4096x8192 ![] bcast_S_S4096x8192 (constantI S_ 32 15#32)))

/-- The mask at an index is one where the entry's rank is below fifteen, zero elsewhere. -/
theorem mask_apply (i : Fin 4096) (j : Fin 8192) :
    (mask x (ix2 i j) : EReal) = topMask (fun k => (x (ix2 i k) : EReal)) j := by
  have h : (mask x (ix2 i j) : EReal) = (((IntOp.cmpi .slt
      ((Host.sort2 S4096x8192 1 comparator_i32_i32_d1 (order x) (iotaInDim S4096x8192 32 1)).2 (ix2 i j)) 15#32).toNat : ℝ) : EReal) := rfl
  rw [h, ranks_apply]
  have hc := comparator_i32_eq (rank (fun k => (x (ix2 i k) : EReal)) j) 15 0#32 0#32
  have hc' : (IntOp.cmpi .slt (BitVec.ofNat 32 (rank (fun k => (x (ix2 i k) : EReal)) j).val) 15#32 == 1#1)
      = decide (rank (fun k => (x (ix2 i k) : EReal)) j < 15) := hc
  unfold topMask
  by_cases hr : (rank (fun k => (x (ix2 i k) : EReal)) j).val < 15
  · rw [decide_eq_true (show rank (fun k => (x (ix2 i k) : EReal)) j < 15 from hr), beq_iff_eq] at hc'
    rw [hc', if_pos hr]
    simp
  · rw [decide_eq_false (show ¬ rank (fun k => (x (ix2 i k) : EReal)) j < 15 from hr), beq_eq_false_iff_ne] at hc'
    rw [eq_zero_of_ne_one hc', if_neg hr]
    simp

/-- The reference's contraction is a plain product of two matrices. -/
theorem dims_plain : dot_S4096x8192_S8192x256_S4096x256_1_0_0_1_n_n = DotDims.plain 4096 8192 256 := rfl

/-- The reference's result is the sum of the weights over each row's fifteen entries of least rank. -/
theorem value_eq : Host.dotGeneral dot_S4096x8192_S8192x256_S4096x256_1_0_0_1_n_n none (mask x)
    (transpose S8192x256 [1, 0] w transposes_S256x8192_S8192x256_1_0) = Cert.Array.result x w := by
  funext i
  obtain ⟨r, q, rfl⟩ : ∃ (r : Fin 4096) (q : Fin 256), i = (ix2 r q : S4096x256.Idx) := ⟨i 0, i 1, eq_ix2 i⟩
  rw [dims_plain]
  refine (StackMember.dotGeneral_plain_apply none _ _ r q).trans (Finset.sum_congr rfl fun k _ => ?_)
  rw [transpose_ix2_apply]
  exact congrArg (· * (w (ix2 q k) : EReal)) (mask_apply x r k)

end Cert.Reference

end
-- ==== Proof.Precondition.lean ====
/- What the precondition says of a memory: every row of the first argument has fifteen entries above the value that
   replaces a marked one. -/
module

public import proofs.«01_k».proof.Proof.Array
public import proofs.«01_k».proof.Pre_enough_above
public import Idealize.ShloMosaic.Lib.ReduceAll
public import Idealize.ShloMosaic.Lib.IndicatorCount

@[expose] public section

noncomputable section

namespace Cert.Pre_enough_above

open Idealize.ShloMosaic Idealize.ShloMosaic.ValueIdx Cert.Block

/-- The shape facts the predicate states. -/
instance facts : Facts where
  bcast_S_S4096x8192 := by decide
  natLt_1_32 := by decide
  reducesTo_S4096x8192_S4096_d1 := by decide
  h_S_ := by decide
  bcast_S_S4096 := by decide
  reducesTo_S4096_S_d0 := by decide

/-- The same reduction as the vector operations name it. -/
theorem reduces : S4096x8192.Reduces [1] S4096 := by decide

/-- The source index over row `i` with column `k`. -/
theorem lift_eq (i : Fin 4096) (k : Fin 8192) : Shape.Reduces.lift (a := (1 : Fin 2)) reduces (ix1 i) k = ix2 i k := by
  funext d
  apply Fin.ext
  match d with
  | ⟨0, _⟩ => rfl
  | ⟨1, _⟩ => rfl

/-- The sum along a row of one-bit words widened is the number of the ones, as a word. -/
theorem count_apply (p : IVec S4096x8192 1) (i : Fin 4096) :
    Host.reduce IntOp.addi (extui 32 p Facts.natLt_1_32) (constantI S_ 32 0#32) Facts.reducesTo_S4096x8192_S4096_d1 Facts.h_S_ (ix1 i)
      = BitVec.ofNat 32 (Finset.univ.filter fun k : Fin 8192 => p (ix2 i k) = 1#1).card := by
  refine (Host.reduce_eq_fold_single (s := S4096x8192) (a := (1 : Fin 2)) IntOp.addi (extui 32 p Facts.natLt_1_32) _ _ reduces _ (ix1 i)).trans ?_
  refine Eq.trans ?_ (IndicatorCount.fold_addi_setWidth_eq_card (w := 32) (fun k : Fin 8192 => p (ix2 i k)) Finset.univ)
  refine congrArg (fun f => Finset.fold IntOp.addi (0#32) f (Finset.univ : Finset (Fin 8192))) (funext fun k => ?_)
  exact congrArg (fun j => (p j).setWidth 32) (lift_eq i k)

/-- The predicate at the exact values gives fifteen entries of every row above the bound. -/
theorem enough (x : FVec Ideal S4096x8192 .f32) (w : FVec Ideal S256x8192 .f32) (j : S_.Idx)
    (h : fn (F := Ideal) x w j = 1#1) : Cert.Array.Enough x := by
  intro i
  dsimp only [fn] at h
  have hi := Host.reduce_andi_eq_one _ _ _ _ j h (ix1 i) (Subsingleton.elim (α := S_.Idx) _ _)
  have hc := count_apply (cmpf .ogt x (broadcastInDim S4096x8192 ![] Facts.bcast_S_S4096x8192 (constant S_ .f32 0xFF7FC99E#32))) i
  have h2 : IntOp.cmpi .sge (BitVec.ofNat 32 (Finset.univ.filter fun k : Fin 8192 => FloatOps.cmpf (F := Ideal) (φ := .f32) .ogt
      (x (ix2 i k)) (FloatOps.ofBits .f32 0xFF7FC99E#32) = 1#1).card) 15#32 = 1#1 :=
    (congrArg (fun n => IntOp.cmpi .sge n 15#32) hc).symm.trans hi
  have hcard : (Finset.univ.filter fun k : Fin 8192 => FloatOps.cmpf (F := Ideal) (φ := .f32) .ogt
      (x (ix2 i k)) (FloatOps.ofBits .f32 0xFF7FC99E#32) = 1#1).card ≤ 8192 :=
    (Finset.card_filter_le _ _).trans (by simp)
  have e : (Finset.univ.filter fun k : Fin 8192 => FloatOps.cmpf (F := Ideal) (φ := .f32) .ogt
      (x (ix2 i k)) (FloatOps.ofBits .f32 0xFF7FC99E#32) = 1#1) = Finset.univ.filter fun p : Fin 8192 => low < (x (ix2 i p) : EReal) := by
    refine Finset.filter_congr fun k _ => ?_
    show BitVec.ofBool (decide (low < (x (ix2 i k) : EReal))) = 1#1 ↔ _
    by_cases hk : low < (x (ix2 i k) : EReal) <;> simp [hk]
  rw [e] at h2 hcard
  have h3 := IntOp.cmpi_sge.mp h2
  rw [show (15#32).toInt = (15 : Int) by decide, BitVec.toInt_eq_toNat_of_lt (by simp only [BitVec.toNat_ofNat]; omega),
    BitVec.toNat_ofNat, Nat.mod_eq_of_lt (by omega)] at h3
  exact_mod_cast h3

end Cert.Pre_enough_above

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Reference
public import proofs.«01_k».proof.Proof.Precondition
public import Idealize.ShloMosaic.Lib.Quiescent

@[expose] public section

noncomputable section

namespace Cert.Proof

open Idealize.ShloMosaic Idealize.ShloMosaic.TcCoe Idealize.SL.Sem

/-- The kernel at the machine's formats runs, keeps its arguments and leaves its semaphores at zero. -/
theorem frame_kernel : Cert.quiescent_Kernel := fun m ρ _ => Cert.Kernel.Gen.frame m ρ

/-- The same at the exact values. -/
theorem frame_ideal : Cert.quiescent_KernelIdeal := fun m ρ _ => Cert.KernelIdeal.Gen.frame m ρ

/-- The same where the precondition holds. -/
theorem frame_ideal_pre : Cert.quiescent_KernelIdeal_pre_enough_above := fun m ρ _ => Cert.KernelIdeal.Gen.frame m ρ

/-- The reference runs, keeps its arguments and has no semaphore to leave. -/
theorem frame_reference : Cert.quiescent_ReferenceIdeal := fun m ρ _ =>
  (θ_run Cert.ReferenceIdeal.defs _ _).mono (fun r h => ⟨fun c => ⟨(h c).2.1, (h c).2.2⟩,
      sem_eq_zero_of_no_sems (by decide) r.2⟩)
    (Cert.ReferenceIdeal.Value.run (F := Ideal) m ρ)

/-- The same where the precondition holds. -/
theorem frame_reference_pre : Cert.quiescent_ReferenceIdeal_pre_enough_above := fun m ρ _ => frame_reference m ρ trivial

/-- Where the precondition holds, the kernel and the reference end with equal results at the exact values. -/
theorem algebraic : Cert.algebraic_KernelIdeal_ReferenceIdeal_pre_enough_above := by
  intro m ρ m' ρ' hpre hagree
  refine ⟨fun c => Cert.Array.result (m ((c : Thread Cert.KernelIdeal.nD Cert.KernelIdeal.τ).loc Cert.KernelIdeal.main_arg0))
    (m ((c : Thread Cert.KernelIdeal.nD Cert.KernelIdeal.τ).loc Cert.KernelIdeal.main_arg1)), ?_, ?_⟩
  · exact (θ_run Cert.KernelIdeal.defs _ _).mono
      (fun _ h c => ⟨(h c).1.trans (Cert.Array.final m c (Cert.Pre_enough_above.enough _ _ ValueIdx.ix0 (congrFun (hpre c) ValueIdx.ix0))), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.Reference.value_eq _ _

/-- Everything this certificate claims. -/
theorem claim : Cert.Claim := ⟨Cert.Kernel.Gen.facts, Cert.KernelIdeal.Gen.facts, Cert.ReferenceIdeal.Gen.facts,
  Cert.Pre_enough_above.facts, frame_kernel, frame_ideal, frame_ideal_pre, frame_reference, frame_reference_pre, trivial, algebraic⟩

end Cert.Proof

end
